-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots_full [hPre_slots_full : Cert.Pre_slots_full.Facts] (m : (ℓ : Loc Cert.KernelIdeal.nD Cert.KernelIdeal.τ Cert.KernelIdeal.sig) → Buf (Elt Ideal) ℓ) : Prop :=
  ∀ c : Dev Cert.KernelIdeal.nD,
    (Cert.Pre_slots_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_slots_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_slots_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_full [hPre_slots_full : Cert.Pre_slots_full.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_slots_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_slots_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_slots_full [hKernelIdeal : Cert.KernelIdeal.Facts] [hPre_slots_full : Cert.Pre_slots_full.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_full m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_slots_full [hReferenceIdeal : Cert.ReferenceIdeal.Facts] [hPre_slots_full : Cert.Pre_slots_full.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_full m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_slots_full [hKernelIdeal : Cert.KernelIdeal.Facts] [hReferenceIdeal : Cert.ReferenceIdeal.Facts] [hPre_slots_full : Cert.Pre_slots_full.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_full m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_slots_full : Cert.Pre_slots_full.Facts),
    quiescent_Kernel (hKernel := hKernel)
    ∧ quiescent_KernelIdeal (hKernelIdeal := hKernelIdeal)
    ∧ quiescent_KernelIdeal_pre_slots_full (hKernelIdeal := hKernelIdeal) (hPre_slots_full := hPre_slots_full)
    ∧ quiescent_ReferenceIdeal (hReferenceIdeal := hReferenceIdeal)
    ∧ quiescent_ReferenceIdeal_pre_slots_full (hReferenceIdeal := hReferenceIdeal) (hPre_slots_full := hPre_slots_full)
    ∧ preserves_Kernel_KernelIdeal
    ∧ algebraic_KernelIdeal_ReferenceIdeal_pre_slots_full (hKernelIdeal := hKernelIdeal) (hReferenceIdeal := hReferenceIdeal) (hPre_slots_full := hPre_slots_full)
-- ==== Pre_slots_full.lean ====
abbrev S204800x128 : Shape := ⟨2, ![204800, 128]⟩
abbrev S1024x200 : Shape := ⟨2, ![1024, 200]⟩
abbrev S128x64 : Shape := ⟨2, ![128, 64]⟩
abbrev S64 : Shape := ⟨1, ![64]⟩
abbrev S_ : Shape := ⟨0, ![]⟩

class Facts : Prop where
  bcast_S_S204800x128 : S_.BroadcastsInDim S204800x128 (![] : Fin 0 → Fin S204800x128.rank)
  bcast_S_S128x64 : S_.BroadcastsInDim S128x64 (![] : Fin 0 → Fin S128x64.rank)

variable [Facts]

def fn {F : FTy → Type} [FloatOps F] (main_arg0 : FVec F S204800x128 .f32) (main_arg1 : IVec S1024x200 1) (main_arg2 : FVec F S128x64 .f32) (main_arg3 : FVec F S64 .f32) (main_arg4 : FVec F S128x64 .f32) (main_arg5 : FVec F S64 .f32) : IVec S1024x200 1 × IVec S204800x128 1 × IVec S128x64 1 :=
  let main_v0 : FVec F S204800x128 .f32 := Host.absf main_arg0
  let main_cst : FVec F S_ .f32 := constant S_ .f32 0x7F800000#32
  let main_v1 : FVec F S204800x128 .f32 := broadcastInDim S204800x128 ![] bcast_S_S204800x128 main_cst
  let main_v2 : IVec S204800x128 1 := cmpf .olt main_v0 main_v1
  let main_v3 : FVec F S128x64 .f32 := Host.absf main_arg2
  let main_cst_0 : FVec F S_ .f32 := constant S_ .f32 0x7F800000#32
  let main_v4 : FVec F S128x64 .f32 := broadcastInDim S128x64 ![] bcast_S_S128x64 main_cst_0
  let main_v5 : IVec S128x64 1 := cmpf .olt main_v3 main_v4
  let main_v6 : FVec F S128x64 .f32 := Host.absf main_arg4
  let main_cst_1 : FVec F S_ .f32 := constant S_ .f32 0x7F800000#32
  let main_v7 : FVec F S128x64 .f32 := broadcastInDim S128x64 ![] bcast_S_S128x64 main_cst_1
  let main_v8 : IVec S128x64 1 := cmpf .olt main_v6 main_v7
  let main_v9 : IVec S128x64 1 := ori main_v5 main_v8
  (main_arg1, main_v2, main_v9)
-- ==== Kernel.lean ====
abbrev S204800x128 : Shape := ⟨2, ![204800, 128]⟩
abbrev S1024x200 : Shape := ⟨2, ![1024, 200]⟩
abbrev S128x64 : Shape := ⟨2, ![128, 64]⟩
abbrev S64 : Shape := ⟨1, ![64]⟩
abbrev S1x64 : Shape := ⟨2, ![1, 64]⟩
abbrev S204800x64 : Shape := ⟨2, ![204800, 64]⟩
abbrev S25600x128 : Shape := ⟨2, ![25600, 128]⟩
abbrev S25600x64 : Shape := ⟨2, ![25600, 64]⟩
abbrev S1024x200x64 : Shape := ⟨3, ![1024, 200, 64]⟩

abbrev nBuf : Space → Nat
  | .hbm => 10
  | .vmem => 8
  | .smem => 0
  | _ => 0

abbrev bufTy : (tb : Table) → Fin (tcTables nBuf tb) → BufTy
  | .hbm, ⟨0, _⟩ => ⟨S204800x128, .f32⟩
  | .hbm, ⟨1, _⟩ => ⟨S1024x200, .i1⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S204800x64, .f32⟩
  | .hbm, ⟨9, _⟩ => ⟨S1024x200x64, .f32⟩
  | .local _ .vmem, ⟨0, _⟩ => ⟨S25600x128, .f32⟩
  | .local _ .vmem, ⟨1, _⟩ => ⟨S25600x128, .f32⟩
  | .local _ .vmem, ⟨2, _⟩ => ⟨S128x64, .f32⟩
  | .local _ .vmem, ⟨3, _⟩ => ⟨S128x64, .f32⟩
  | .local _ .vmem, ⟨4, _⟩ => ⟨S1x64, .f32⟩
  | .local _ .vmem, ⟨5, _⟩ => ⟨S1x64, .f32⟩
  | .local _ .vmem, ⟨6, _⟩ => ⟨S25600x64, .f32⟩
  | .local _ .vmem, ⟨7, _⟩ => ⟨S25600x64, .f32⟩
  | _, _ => ⟨S204800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S25600x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S204800x128 : Shape := ⟨2, ![204800, 128]⟩
abbrev S1024x200 : Shape := ⟨2, ![1024, 200]⟩
abbrev S128x64 : Shape := ⟨2, ![128, 64]⟩
abbrev S64 : Shape := ⟨1, ![64]⟩
abbrev S204800 : Shape := ⟨1, ![204800]⟩
abbrev S_ : Shape := ⟨0, ![]⟩
abbrev S204800x1 : Shape := ⟨2, ![204800, 1]⟩
abbrev S1 : Shape := ⟨1, ![1]⟩
abbrev S204800x64 : Shape := ⟨2, ![204800, 64]⟩
abbrev S1x64 : Shape := ⟨2, ![1, 64]⟩
abbrev S1024x200x64 : Shape := ⟨3, ![1024, 200, 64]⟩

abbrev nBuf : Space → Nat
  | .hbm => 107
  | .vmem => 0
  | .smem => 0
  | _ => 0

abbrev bufTy : (tb : Table) → Fin (tcTables nBuf tb) → BufTy
  | .hbm, ⟨0, _⟩ => ⟨S204800x128, .f32⟩
  | .hbm, ⟨1, _⟩ => ⟨S1024x200, .i1⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S204800, .i1⟩
  | .hbm, ⟨7, _⟩ => ⟨S204800, .i32⟩
  | .hbm, ⟨8, _⟩ => ⟨S_, .i32⟩
  | .hbm, ⟨9, _⟩ => ⟨S_, .i32⟩
  | .hbm, ⟨10, _⟩ => ⟨S204800, .i32⟩
  | .hbm, ⟨11, _⟩ => ⟨S_, .i32⟩
  | .hbm, ⟨12, _⟩ => ⟨S204800, .i32⟩
  | .hbm, ⟨13, _⟩ => ⟨S_, .i32⟩
  | .hbm, ⟨14, _⟩ => ⟨S204800, .i32⟩
  | .hbm, ⟨15, _⟩ => ⟨S204800, .i1⟩
  | .hbm, ⟨16, _⟩ => ⟨S_, .i32⟩
  | .hbm, ⟨17, _⟩ => ⟨S204800, .i32⟩
  | .hbm, ⟨18, _⟩ => ⟨S204800, .i32⟩
  | .hbm, ⟨19, _⟩ => ⟨S204800, .i32⟩
  | .hbm, ⟨20, _⟩ => ⟨S204800x1, .i32⟩
  | .hbm, ⟨21, _⟩ => ⟨S_, .i32⟩
  | .hbm, ⟨22, _⟩ => ⟨S204800, .i32⟩
  | .hbm, ⟨23, _⟩ => ⟨S204800, .i32⟩
  | .hbm, ⟨24, _⟩ => ⟨S_, .i32⟩
  | .hbm, ⟨25, _⟩ => ⟨S_, .i32⟩
  | .hbm, ⟨26, _⟩ => ⟨S204800, .i32⟩
  | .hbm, ⟨27, _⟩ => ⟨S_, .i32⟩
  | .hbm, ⟨28, _⟩ => ⟨S_, .i32⟩
  | .hbm, ⟨29, _⟩ => ⟨S204800, .i32⟩
  | .hbm, ⟨30, _⟩ => ⟨S204800, .i32⟩
  | .hbm, ⟨31, _⟩ => ⟨S204800, .i32⟩
  | .hbm, ⟨32, _⟩ => ⟨S_, .i32⟩
  | .hbm, ⟨33, _⟩ => ⟨S204800, .i32⟩
  | .hbm, ⟨34, _⟩ => ⟨S204800, .i1⟩
  | .hbm, ⟨35, _⟩ => ⟨S204800, .i32⟩
  | .hbm, ⟨36, _⟩ => ⟨S204800, .i32⟩
  | .hbm, ⟨37, _⟩ => ⟨S_, .i32⟩
  | .hbm, ⟨38, _⟩ => ⟨S204800, .i32⟩
  | .hbm, ⟨39, _⟩ => ⟨S204800, .i1⟩
  | .hbm, ⟨40, _⟩ => ⟨S204800, .i1⟩
  | .hbm, ⟨41, _⟩ => ⟨S_, .i32⟩
  | .hbm, ⟨42, _⟩ => ⟨S204800, .i32⟩
  | .hbm, ⟨43, _⟩ => ⟨S204800, .i32⟩
  | .hbm, ⟨44, _⟩ => ⟨S204800, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S204800, .i32⟩
  | .hbm, ⟨52, _⟩ => ⟨S204800, .i32⟩
  | .hbm, ⟨53, _⟩ => ⟨S_, .i32⟩
  | .hbm, ⟨54, _⟩ => ⟨S204800, .i32⟩
  | .hbm, ⟨55, _⟩ => ⟨S204800, .i1⟩
  | .hbm, ⟨56, _⟩ => ⟨S_, .i32⟩
  | .hbm, ⟨57, _⟩ => ⟨S204800, .i32⟩
  | .hbm, ⟨58, _⟩ => ⟨S204800, .i1⟩
  | .hbm, ⟨59, _⟩ => ⟨S_, .i32⟩
  | .hbm, ⟨60, _⟩ => ⟨S_, .i1⟩
  | .hbm, ⟨61, _⟩ => ⟨S204800, .i1⟩
  | .hbm, ⟨62, _⟩ => ⟨S204800, .i1⟩
  | .hbm, ⟨63, _⟩ => ⟨S204800, .i1⟩
  | .hbm, ⟨64, _⟩ => ⟨S204800, .i32⟩
  | .hbm, ⟨65, _⟩ => ⟨S204800, .i32⟩
  | .hbm, ⟨66, _⟩ => ⟨S204800, .i32⟩
  | .hbm, ⟨67, _⟩ => ⟨S204800, .i32⟩
  | .hbm, ⟨68, _⟩ => ⟨S_, .i32⟩
  | .hbm, ⟨69, _⟩ => ⟨S_, .i32⟩
  | .hbm, ⟨70, _⟩ => ⟨S1, .i32⟩
  | .hbm, ⟨71, _⟩ => ⟨S204800, .i32⟩
  | .hbm, ⟨72, _⟩ => ⟨S204800, .i32⟩
  | .hbm, ⟨73, _⟩ => ⟨S204800, .i1⟩
  | .hbm, ⟨74, _⟩ => ⟨S_, .i32⟩
  | .hbm, ⟨75, _⟩ => ⟨S_, .i32⟩
  | .hbm, ⟨76, _⟩ => ⟨S204800, .i32⟩
  | .hbm, ⟨77, _⟩ => ⟨S204800, .i32⟩
  | .hbm, ⟨78, _⟩ => ⟨S_, .f32⟩
  | .hbm, ⟨79, _⟩ => ⟨S204800x64, .f32⟩
  | .hbm, ⟨80, _⟩ => ⟨S204800x64, .f32⟩
  | .hbm, ⟨81, _⟩ => ⟨S1x64, .f32⟩
  | .hbm, ⟨82, _⟩ => ⟨S204800x64, .f32⟩
  | .hbm, ⟨83, _⟩ => ⟨S204800x64, .f32⟩
  | .hbm, ⟨84, _⟩ => ⟨S_, .i32⟩
  | .hbm, ⟨85, _⟩ => ⟨S204800, .i32⟩
  | .hbm, ⟨86, _⟩ => ⟨S204800, .i1⟩
  | .hbm, ⟨87, _⟩ => ⟨S_, .i32⟩
  | .hbm, ⟨88, _⟩ => ⟨S204800, .i32⟩
  | .hbm, ⟨89, _⟩ => ⟨S204800, .i32⟩
  | .hbm, ⟨90, _⟩ => ⟨S204800, .i32⟩
  | .hbm, ⟨91, _⟩ => ⟨S204800x1, .i32⟩
  | .hbm, ⟨92, _⟩ => ⟨S204800x64, .f32⟩
  | .hbm, ⟨93, _⟩ => ⟨S204800x64, .f32⟩
  | .hbm, ⟨94, _⟩ => ⟨S1x64, .f32⟩
  | .hbm, ⟨95, _⟩ => ⟨S204800x64, .f32⟩
  | .hbm, ⟨96, _⟩ => ⟨S204800x64, .f32⟩
  | .hbm, ⟨97, _⟩ => ⟨S_, .i32⟩
  | .hbm, ⟨98, _⟩ => ⟨S204800, .i32⟩
  | .hbm, ⟨99, _⟩ => ⟨S204800, .i1⟩
  | .hbm, ⟨100, _⟩ => ⟨S_, .i32⟩
  | .hbm, ⟨101, _⟩ => ⟨S204800, .i32⟩
  | .hbm, ⟨102, _⟩ => ⟨S204800, .i32⟩
  | .hbm, ⟨103, _⟩ => ⟨S204800, .i32⟩
  | .hbm, ⟨104, _⟩ => ⟨S204800x1, .i32⟩
  | .hbm, ⟨105, _⟩ => ⟨S204800x64, .f32⟩
  | .hbm, ⟨106, _⟩ => ⟨S1024x200x64, .f32⟩
  | _, _ => ⟨S204800x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_call1_call0_c : Ref sig .tc := ⟨.hbm, 24, rfl⟩
abbrev main_call1_call0_v0 : Ref sig .tc := ⟨.hbm, 25, rfl⟩
abbrev main_v11 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v12 : Ref sig .tc := ⟨.hbm, 44, rfl⟩
abbrev main_c_4 : Ref sig .tc := ⟨.hbm, 45, rfl⟩
abbrev main_call3_v0 : Ref sig .tc := ⟨.hbm, 46, rfl⟩
abbrev main_call3_c : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_v5 : Ref sig .tc := ⟨.hbm, 54, rfl⟩
abbrev main_call3_v6 : Ref sig .tc := ⟨.hbm, 55, rfl⟩
abbrev main_call3_c_2 : Ref sig .tc := ⟨.hbm, 56, rfl⟩
abbrev main_call3_v7 : Ref sig .tc := ⟨.hbm, 57, rfl⟩
abbrev main_call3_v8 : Ref sig .tc := ⟨.hbm, 58, rfl⟩
abbrev main_call3_c_3 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_v13 : Ref sig .tc := ⟨.hbm, 66, rfl⟩
abbrev main_v14 : Ref sig .tc := ⟨.hbm, 67, rfl⟩
abbrev main_c_5 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_c_6 : Ref sig .tc := ⟨.hbm, 74, rfl⟩
abbrev main_call4_v0 : Ref sig .tc := ⟨.hbm, 75, rfl⟩
abbrev main_call4_v1 : Ref sig .tc := ⟨.hbm, 76, rfl⟩
abbrev main_v20 : Ref sig .tc := ⟨.hbm, 77, rfl⟩
abbrev main_cst : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_c_7 : Ref sig .tc := ⟨.hbm, 84, rfl⟩
abbrev main_v26 : Ref sig .tc := ⟨.hbm, 85, rfl⟩
abbrev main_v27 : Ref sig .tc := ⟨.hbm, 86, rfl⟩
abbrev main_c_8 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_9 : Ref sig .tc := ⟨.hbm, 97, rfl⟩
abbrev main_v37 : Ref sig .tc := ⟨.hbm, 98, rfl⟩
abbrev main_v38 : Ref sig .tc := ⟨.hbm, 99, rfl⟩
abbrev main_c_10 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩

abbrev nD : Nat := 1
abbrev τ : Topo := Topo.v7x

variable {F : FTy → Type} [FloatOps F]
-- ==== Proof.Pre.lean ====
/- What the precondition says of the arguments at the ideal instance: the mask is true everywhere, every feature is a
   real number, and at every position one of the two weights is. -/
module

public import proofs.«01_k».proof.Defs
public import proofs.«01_k».proof.Proof.Gen.Pre_slots_full
public import Idealize.ShloMosaic.Lib.Pointwise
public import Idealize.ShloMosaic.PureOps.Ideal.Laws

@[expose] public section

noncomputable section

namespace Cert.Proof.Pre

open Idealize.ShloMosaic Cert.Pre_slots_full

/-- An extended real whose absolute value is below `+∞`'s word is a real number. -/
theorem real_of_lt (a : EReal) (h : (FloatOps.absf (F := Ideal) (φ := .f32) a : EReal) < Ideal.ofBits .f32 2139095040#32) :
    ∃ r : ℝ, a = r := by
  have e : Ideal.ofBits .f32 2139095040#32 = (⊤ : EReal) := by
    simp [Ideal.ofBits, Ideal.ieee]
  rw [e, Ideal.absf_def] at h
  induction a with
  | bot => exact absurd h (by simp)
  | coe w => exact ⟨w, rfl⟩
  | top => exact absurd h (by simp)

/-- A truth word that is one says its proposition. -/
theorem of_word {p : Prop} [Decidable p] (h : BitVec.ofBool (decide p) = 1#1) : p := by
  by_contra hp
  rw [decide_eq_false hp] at h
  exact absurd h (by decide)

/-- A disjunction of two truth words is one only when one of them is. -/
theorem or_word {a b : BitVec 1} (h : IntOp.ori a b = 1#1) : a = 1#1 ∨ b = 1#1 := by
  revert a b
  decide

variable (x0 : FVec Ideal S204800x128 .f32) (x1 : IVec S1024x200 1) (x2 : FVec Ideal S128x64 .f32) (x3 : FVec Ideal S64 .f32)
  (x4 : FVec Ideal S128x64 .f32) (x5 : FVec Ideal S64 .f32)

/-- The first component: the mask itself. -/
theorem mask (h : (Cert.Pre_slots_full.fn (F := Ideal) x0 x1 x2 x3 x4 x5).1 = fun _ => 1#1) : x1 = fun _ => 1#1 := h

/-- The second component: every feature is a real number. -/
theorem feats (h : (Cert.Pre_slots_full.fn (F := Ideal) x0 x1 x2 x3 x4 x5).2.1 = fun _ => 1#1) (i : S204800x128.Idx) :
    ∃ r : ℝ, (x0 i : EReal) = r := by
  have e := congrFun h i
  simp only [Cert.Pre_slots_full.fn] at e
  pointwise at e
  exact real_of_lt _ (of_word e)

/-- The third component: at every position one of the two weights is a real number. -/
theorem weights (h : (Cert.Pre_slots_full.fn (F := Ideal) x0 x1 x2 x3 x4 x5).2.2 = fun _ => 1#1) (i : S128x64.Idx) :
    (∃ r : ℝ, (x2 i : EReal) = r) ∨ ∃ r : ℝ, (x4 i : EReal) = r := by
  have e := congrFun h i
  simp only [Cert.Pre_slots_full.fn] at e
  pointwise at e
  rcases or_word e with h2 | h4
  · exact .inl (real_of_lt _ (of_word h2))
  · exact .inr (real_of_lt _ (of_word h4))

end Cert.Proof.Pre

end
-- ==== Proof.Algebra.lean ====
/- The extended-real algebra of two dense layers against one with summed weights: the product distributes where the
   factor is finite and one summand is, and the two layers' sum is then the one layer. -/
module

public import Mathlib.Data.EReal.Operations
public import Mathlib.Algebra.BigOperators.Fin

@[expose] public section

namespace Cert.Proof.Algebra

/-- A finite factor distributes over a sum whose first summand is finite. -/
theorem mul_add_left (x a w : ℝ) (b : EReal) (hb : b = (w : EReal) ∨ b = ⊤ ∨ b = ⊥) :
    (x : EReal) * ((a : EReal) + b) = (x : EReal) * (a : EReal) + (x : EReal) * b := by
  rcases hb with rfl | rfl | rfl
  · exact_mod_cast mul_add x a w
  · rw [EReal.coe_add_top]
    rcases lt_trichotomy x 0 with h | rfl | h
    · rw [EReal.coe_mul_top_of_neg h, ← EReal.coe_mul, EReal.add_bot]
    · simp
    · rw [EReal.coe_mul_top_of_pos h, ← EReal.coe_mul, EReal.coe_add_top]
  · rw [EReal.add_bot]
    rcases lt_trichotomy x 0 with h | rfl | h
    · rw [EReal.coe_mul_bot_of_neg h, ← EReal.coe_mul, EReal.coe_add_top]
    · simp
    · rw [EReal.coe_mul_bot_of_pos h, ← EReal.coe_mul, EReal.add_bot]

/-- Every extended real is a real or one of the two infinities. -/
theorem real_or (b : EReal) : ∃ w : ℝ, b = (w : EReal) ∨ b = ⊤ ∨ b = ⊥ := by
  induction b with
  | bot => exact ⟨0, .inr (.inr rfl)⟩
  | coe w => exact ⟨w, .inl rfl⟩
  | top => exact ⟨0, .inr (.inl rfl)⟩

/-- A finite factor distributes over a sum one of whose summands is finite. -/
theorem mul_add_of_finite (x a b : EReal) (hx : ∃ r : ℝ, x = r) (hab : (∃ r : ℝ, a = r) ∨ ∃ r : ℝ, b = r) :
    x * (a + b) = x * a + x * b := by
  obtain ⟨x, rfl⟩ := hx
  rcases hab with ⟨a, rfl⟩ | ⟨b, rfl⟩
  · obtain ⟨w, hw⟩ := real_or b
    exact mul_add_left x a w b hw
  · obtain ⟨w, hw⟩ := real_or a
    rw [add_comm a, mul_add_left x b w a hw, add_comm]

/-- Two dense layers, added one after the other to zero, are the one dense layer of the summed weights and biases. -/
theorem layers {K : Nat} (x a b : Fin K → EReal) (c d : EReal) (hx : ∀ k, ∃ r : ℝ, x k = r)
    (hab : ∀ k, (∃ r : ℝ, a k = r) ∨ ∃ r : ℝ, b k = r) :
    (∑ k, x k * (a k + b k)) + (c + d) = (0 + ((∑ k, x k * a k) + c)) + ((∑ k, x k * b k) + d) := by
  rw [zero_add, add_add_add_comm, ← Finset.sum_add_distrib]
  exact congrArg (· + (c + d)) (Finset.sum_congr rfl fun k _ => mul_add_of_finite _ _ _ (hx k) (hab k))

end Cert.Proof.Algebra
-- ==== Proof.KernelValue.lean ====
/- The kernel's result array, index by index, at the ideal instance: what one block stores, what the whole array holds
   after the region, and what the reshape after the region makes of it. -/
module

public import proofs.«01_k».proof.Proof.Gen.KernelIdeal.Frame
public import Idealize.ShloMosaic.Lib.Pipeline.ValueKit
public import Idealize.ShloMosaic.Lib.Pointwise
public import Idealize.ShloMosaic.PureOps.Ideal

@[expose] public section

noncomputable section

namespace Cert.Proof.KernelValue

open Idealize.ShloMosaic Idealize.ShloMosaic.TcCoe Idealize.SL.Sem
open Cert.KernelIdeal Cert.KernelIdeal.Gen

/-- One dense layer with the two weight matrices and the two biases summed first, at row `i 0` and column `i 1`. -/
def dense (x : FVec Ideal S204800x128 .f32) (w1 w2 : FVec Ideal S128x64 .f32) (b1 b2 : FVec Ideal S64 .f32)
    (i : S204800x64.Idx) : EReal :=
  (∑ k : Fin 128, (x (ix2 (i 0) k) : EReal) * ((w1 (ix2 k (i 1)) : EReal) + (w2 (ix2 k (i 1)) : EReal)))
    + ((b1 (ix1 (i 1)) : EReal) + (b2 (ix1 (i 1)) : EReal))

/-- What the body computes of its blocks, at a block index. -/
theorem payload (x : FVec Ideal S25600x128 .f32) (w1 w2 : FVec Ideal S128x64 .f32) (b1 b2 : FVec Ideal S1x64 .f32)
    (y : S25600x64.Idx) :
    k0_pay1 w1 w2 b1 b2 x y
      = (∑ k : Fin 128, (x (ix2 (y 0) k) : EReal) * ((w1 (ix2 k (y 1)) : EReal) + (w2 (ix2 k (y 1)) : EReal)))
        + ((b1 (ix2 0 (y 1)) : EReal) + (b2 (ix2 0 (y 1)) : EReal)) := by
  pointwise [k0_pay1]

variable (m : (ℓ : Loc nD τ sig) → Buf (Elt Ideal) ℓ) (ρ : Dev nD → PrngReg)

/-- The first bias as the region finds it: the argument as one row. -/
theorem entry_v0 (c : Dev nD) : V m c main_v0 = shapeCast S1x64 (m ((c : Thread nD τ).loc main_arg3)) shapeCasts_S64_S1x64 := by
  show StableHlo.after hostOps0 _ (Proc.devRef .tc main_v0) = _
  after_results
  rfl

/-- The second bias as the region finds it: the argument as one row. -/
theorem entry_v1 (c : Dev nD) : V m c main_v1 = shapeCast S1x64 (m ((c : Thread nD τ).loc main_arg5)) shapeCasts_S64_S1x64 := by
  show StableHlo.after hostOps0 _ (Proc.devRef .tc main_v1) = _
  after_results
  rfl

/-- The windows' block indices at a point: the rows advance with the point, everything else stays. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- What the body stores at block index `y` of point `t` is the dense layer at the array index `y` sits at. -/
theorem point (c : Dev nD) (t : Fin cfg0.N) (y : S25600x64.Idx) :
    k0_pay1 (iblk m c 1 t) (iblk m c 2 t) (iblk m c 3 t) (iblk m c 4 t) (iblk m c 0 t) y
      = dense (m ((c : Thread nD τ).loc main_arg0)) (m ((c : Thread nD τ).loc main_arg2)) (m ((c : Thread nD τ).loc main_arg4))
          (m ((c : Thread nD τ).loc main_arg3)) (m ((c : Thread nD τ).loc main_arg5)) (((cfg0.win 5).blk t).view.emb y) := by
  rw [payload]
  unfold dense
  blk_point [iblk, V, idx t]
  · rw [entry_v0]
    pointwise
    blk_ext [idx t]
  · rw [entry_v1]
    pointwise
    blk_ext [idx t]

/-- The array the region writes: the dense layer at every index. -/
theorem final (c : Dev nD) : (dats m 0 c).arrAt 5 (cfgs 0).N
    = dense (m ((c : Thread nD τ).loc main_arg0)) (m ((c : Thread nD τ).loc main_arg2)) (m ((c : Thread nD τ).loc main_arg4))
          (m ((c : Thread nD τ).loc main_arg3)) (m ((c : Thread nD τ).loc main_arg5)) := by
  refine (dats m 0 c).arrAt_eq_of_covers 5 _ (by decide +kernel) fun t _ y => ?_
  blk_simp
  rw [after0_5]
  frame_out
  exact point m c t y

/-- The result after the reshape that follows the region. -/
theorem tail (c : Dev nD) : Pipeline.afterTail₀ cfgs (dats m) 0 (V0 m) [hostOps1] c main_v3
    = shapeCast S1024x200x64 (dense (m ((c : Thread nD τ).loc main_arg0)) (m ((c : Thread nD τ).loc main_arg2))
        (m ((c : Thread nD τ).loc main_arg4)) (m ((c : Thread nD τ).loc main_arg3)) (m ((c : Thread nD τ).loc main_arg5)))
        shapeCasts_S204800x64_S1024x200x64 := by
  unfold Pipeline.afterTail₀
  show StableHlo.after hostOps1 _ (Proc.devRef .tc main_v3) = _
  after_results
  rw [← final m c]
  have e := Pipeline.withArrays_arr spec0 launch0.win.arr_inj c (V0 m c) (fun w => (dats m 0 c).arrAt w (cfgs 0).N) 5
  exact congrArg (fun x => shapeCast S1024x200x64 x shapeCasts_S204800x64_S1024x200x64) e

/-- Every run of the kernel ends with the reshaped dense layer in its result and the arguments as launched. -/
theorem run : θ_run defs (onTc (τ := τ) (main (F := Ideal))) ⟨m, fun _ => 0, ρ⟩ fun r => ∀ c : Dev nD,
    r.2.mem ((c.tc : Thread nD τ).loc main_v3)
      = shapeCast S1024x200x64 (dense (m ((c : Thread nD τ).loc main_arg0)) (m ((c : Thread nD τ).loc main_arg2))
        (m ((c : Thread nD τ).loc main_arg4)) (m ((c : Thread nD τ).loc main_arg3)) (m ((c : Thread nD τ).loc main_arg5)))
        shapeCasts_S204800x64_S1024x200x64
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono ?_ (θ_run_and (run_main m ρ) (frame m ρ))
  rintro r ⟨h, ha, -⟩ c
  exact ⟨((h c).2 main_v3 (Pipeline.mem_restRefs_of main_v3 (by decide) (by decide))).trans (tail m c), ha c⟩

end Cert.Proof.KernelValue

end
-- ==== Proof.Scatter.lean ====
/- An accumulating scatter of the rows of a matrix, `x.at[idx].add(u)` with one index word per row of `u`: which element an
   update lands at, and the scattered array when row `p`'s index word is `p` itself. -/
module

public import Idealize.ShloMosaic.Lib.Routing.OpsPair
public import Idealize.ShloMosaic.Lib.StableHlo.Predicate
public import Idealize.ShloMosaic.PureOps.Ideal.Laws

@[expose] public section

noncomputable section

namespace Cert.Proof.Scatter

open Idealize.ShloMosaic Idealize.ShloMosaic.ValueIdx Idealize.ShloMosaic.Routing

/-- Element `(p, q)` of the updates lands at `(r, c)` exactly when row `p`'s index word, read signed, is `r` and `q` is `c`. -/
theorem lands_row {R C U : Nat} (d : ScatterDims (shape2 R C) (shape2 U 1) (shape2 U C)) (huw : d.updateWindowDims = [1])
    (hiw : d.insertedWindowDims = [0]) (hsd : d.scatterDimsToOperandDims = [0]) (hivd : d.indexVectorDim = 1)
    (idx : IVec (shape2 U 1) 32) (p : Fin U) (q : Fin C) (r : Fin R) (c : Fin C) :
    d.resultIdx? (ix2 p q) idx = some (ix2 r c) ↔ (idx (ix2 p (0 : Fin 1))).toInt = (r.val : Int) ∧ q = c := by
  have one_ne : (1 : Fin 2) ≠ 0 := Fin.zero_ne_one.symm
  have hm0 : (0 : Fin 2) ∈ d.scatterDimsToOperandDims := by rw [hsd]; exact List.mem_singleton.2 rfl
  have hm1 : (1 : Fin 2) ∉ d.scatterDimsToOperandDims := by
    rw [hsd]; exact fun h => one_ne (List.mem_singleton.1 h)
  have hkept : d.sKept = [1] := by
    show (shape2 R C).kept d.insertedWindowDims = _
    rw [hiw]
    rfl
  have hus : d.uScatter = [0] := by
    show (shape2 U C).kept d.updateWindowDims = _
    rw [huw]
    rfl
  have first : ∀ (l : List (Fin 2)) (n : Nat) (h : n < l.length) (a : Fin 2), l = [a] → l[n]'h = a := by
    intro l n h a hl
    subst hl
    exact List.mem_singleton.1 (List.getElem_mem h)
  have hwin0 : d.window (ix2 p q) 0 = 0 := by
    unfold ScatterDims.window
    rw [dif_neg (by rw [hkept]; exact fun h => one_ne (List.mem_singleton.1 h).symm)]
  have hwin1 : d.window (ix2 p q) 1 = q.val := by
    unfold ScatterDims.window
    rw [dif_pos (by rw [hkept]; exact List.mem_singleton.2 rfl), first _ _ _ 1 huw]
  have hstart0 : d.start (ix2 p q) idx 0 = (idx (ix2 p (0 : Fin 1))).toInt := by
    unfold ScatterDims.start
    rw [dif_pos hm0]
    refine congrArg (fun t => (idx t).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      rw [first _ _ _ 0 hus]
    | ⟨1, _⟩ =>
      unfold ScatterDims.siIdx
      rw [dif_pos (by rw [hivd])]
      show List.idxOf (0 : Fin 2) d.scatterDimsToOperandDims = 0
      rw [hsd]
      rfl
  have hstart1 : d.start (ix2 p q) idx 1 = 0 := by
    unfold ScatterDims.start
    rw [dif_neg hm1]
  rw [resultIdx?_ix2, hstart0, hwin0, hstart1, hwin1, Fin.ext_iff]
  omega

/-- **The scatter by the identity.** With row `p`'s index word equal to `p`, the accumulating scatter adds the updates to the operand
    element by element. -/
theorem scatterAdd_identity {R C : Nat} (hR : R < 2 ^ 31) (d : ScatterDims (shape2 R C) (shape2 R 1) (shape2 R C))
    (huw : d.updateWindowDims = [1]) (hiw : d.insertedWindowDims = [0]) (hsd : d.scatterDimsToOperandDims = [0])
    (hivd : d.indexVectorDim = 1) (x : FVec Ideal (shape2 R C) .f32) (idx : IVec (shape2 R 1) 32) (upd : FVec Ideal (shape2 R C) .f32)
    (hidx : ∀ p : Fin R, idx (ix2 p (0 : Fin 1)) = BitVec.ofNat 32 p.val) (r : Fin R) (c : Fin C) :
    Host.scatterAdd d x idx upd (ix2 r c) = (x (ix2 r c) + upd (ix2 r c) : EReal) := by
  show (x (ix2 r c) : EReal) + ∑ j ∈ Finset.univ.filter (fun j => d.resultIdx? j idx = some (ix2 r c)), (upd j : EReal) = _
  have hset : (Finset.univ.filter fun j : (shape2 R C).Idx => d.resultIdx? j idx = some (ix2 r c)) = {ix2 r c} := by
    ext j
    obtain ⟨p, q, rfl⟩ : ∃ (p : Fin R) (q : Fin C), j = ix2 p q := ⟨j 0, j 1, eq_ix2 j⟩
    have hp := p.isLt
    rw [Finset.mem_filter, Finset.mem_singleton, lands_row d huw hiw hsd hivd, hidx,
      StableHlo.Predicate.toInt_ofNat_small _ (by omega)]
    constructor
    · rintro ⟨_, h0, h1⟩
      rw [h1, show p = r from Fin.ext (by omega)]
    · intro h
      have h0 : p = r := congrFun h 0
      have h1 : q = c := congrFun h 1
      exact ⟨Finset.mem_univ _, by rw [h0], h1⟩
  rw [hset, Finset.sum_singleton]

end Cert.Proof.Scatter

end
-- ==== Proof.Nonzero.lean ====
/- The reference's `jnp.nonzero` of a mask that is set everywhere: the list of the set positions is 0, 1, 2, …; the steps in the
   order in which the program takes them. -/
module

public import proofs.«01_k».proof.Proof.Gen.ReferenceIdeal.Read
public import Idealize.ShloMosaic.Lib.Routing.Words
public import Idealize.ShloMosaic.Lib.Routing.OpsPair

@[expose] public section

noncomputable section

namespace Cert.Proof.Nonzero

open Idealize.ShloMosaic Idealize.ShloMosaic.ValueIdx Idealize.ShloMosaic.Routing
open Cert.ReferenceIdeal Cert.ReferenceIdeal.Gen Cert.ReferenceIdeal.Read

/-- Where `f` is 1 at every position, its sum over the first `n` positions is `n`. -/
theorem sum_ones (n : Nat) : ((List.range n).map fun _ => 1).sum = n := by
  rw [List.map_const', List.sum_replicate, List.length_range, Nat.nsmul_eq_mul, Nat.mul_one]

/-- Where `f` is 0 at position 0 and 1 after it, its sum over positions `0 … j` is `j`. -/
theorem sum_ones_from_one (j : Nat) : ((List.range (j + 1)).map fun i => if 1 ≤ i then 1 else 0).sum = j := by
  induction j with
  | zero => rfl
  | succ j ih => rw [List.range_succ, List.map_append, List.sum_append, ih]; simp

/-- The number of `i < N` with `i + 1 = x` is 1 when `1 ≤ x`, else 0, for `x ≤ N`. -/
theorem count_succ_eq (N x : Nat) (hx : x ≤ N) : Nat.count (fun i => i + 1 = x) N = if 1 ≤ x then 1 else 0 := by
  induction N with
  | zero => rw [Nat.le_zero.1 hx]; rfl
  | succ N ih =>
    rw [Nat.count_succ]
    by_cases h : x = N + 1
    · subst h
      have : Nat.count (fun i => i + 1 = N + 1) N = 0 := by
        rw [Nat.count_iff_forall_not]
        intro i hi
        omega
      rw [this, if_pos rfl, if_pos (by omega), Nat.zero_add]
    · rw [ih (by omega), if_neg (c := N + 1 = x) (fun e => h e.symm), Nat.add_zero]

variable (x1 : (⟨S1024x200, .i1⟩ : BufTy).Contents (Elt Ideal)) (h1 : x1 = fun _ => 1#1)
include h1

/-- Every word of the widened mask is 1. -/
theorem mask_word (i : Fin 204800) : val_main_call0_v0 (F := Ideal) x1 (ix1 i) = BitVec.ofNat 32 1 := by
  rw [val_main_call0_v0_apply, val_main_v0_apply, h1]
  rfl

/-- The running count of the set positions: `i + 1` at position `i`. -/
theorem running (i : Fin 204800) : val_main_v1 (F := Ideal) x1 (ix1 i) = BitVec.ofNat 32 (i.val + 1) := by
  unfold val_main_v1
  refine (cumsum1 (N := 204800) (Nm1 := 204799) (by norm_num) _ (fun _ => 1) (mask_word x1 h1) _ ?_ _ _ i).trans ?_
  · rw [val_main_call0_call0_v0_apply, val_main_call0_call0_c_apply]
  · rw [sum_ones]

/-- The same after the program's wrap of negative indices, as a column. -/
theorem running_col (i : Fin 204800) : val_main_v8 (F := Ideal) x1 (ix2 i (0 : Fin 1)) = BitVec.ofNat 32 (i.val + 1) := by
  have hi := i.isLt
  have e : idx_main_v8 (ix2 i (0 : Fin 1)) = ix1 i := funext fun a => match a with
    | ⟨0, _⟩ => rfl
  rw [val_main_v8_apply, e]
  rw [val_main_v7_apply, val_main_v4_apply, val_main_v3_apply, val_main_c_0_apply, running x1 h1]
  exact wrap_of_lt _ _ (by rw [BitVec.toNat_ofNat, Nat.mod_eq_of_lt (by omega)]; omega)

/-- The histogram of the running counts: 0 at position 0 and 1 after it. -/
theorem histogram (j : Fin 204800) :
    val_main_v10 (F := Ideal) x1 (ix1 j) = BitVec.ofNat 32 (if 1 ≤ j.val then 1 else 0) := by
  unfold val_main_v10
  refine (scatter_hist (N := 204800) _ rfl rfl rfl _ (fun i => ?_) _ _ (fun i => ?_) (fun i => i + 1) (running_col x1 h1)
    (fun i => ?_) j).trans ?_
  · rw [val_main_v2_apply, val_main_c_apply]
  · rw [val_main_v9_apply, val_main_c_2_apply]
  · have := i.isLt
    omega
  · rw [count_succ_eq _ _ (Nat.le_of_lt j.isLt)]

/-- The running sum of the histogram: `i` at position `i`. -/
theorem position (i : Fin 204800) : val_main_v11 (F := Ideal) x1 (ix1 i) = BitVec.ofNat 32 i.val := by
  unfold val_main_v11
  refine (cumsum1 (N := 204800) (Nm1 := 204799) (by norm_num) _ (fun j => if 1 ≤ j then 1 else 0) (histogram x1 h1) _ ?_ _ _ i).trans ?_
  · rw [val_main_call1_call0_v0_apply, val_main_call1_call0_c_apply]
  · rw [sum_ones_from_one]

/-- Divided by one and rounded down, still `i`. -/
theorem position_div (i : Fin 204800) : val_main_v12 (F := Ideal) x1 (ix1 i) = BitVec.ofNat 32 i.val := by
  have hi := i.isLt
  have e : val_main_v12 (F := Ideal) x1 = pyDiv bcast_S_S204800 (val_main_v11 (F := Ideal) x1) (constantI shape0 32 1#32) := rfl
  rw [e, pyDiv_ap bcast_S_S204800 _ _ _ (position x1 h1 i) (b := 1) rfl (by omega) (by omega) (by omega), Nat.div_one]

/-- Its remainder by the number of slots, still `i`. -/
theorem position_rem (i : Fin 204800) : val_main_v13 (F := Ideal) x1 (ix1 i) = BitVec.ofNat 32 i.val := by
  have hi := i.isLt
  have e : val_main_v13 (F := Ideal) x1 = pyRem bcast_S_S204800 (val_main_v12 (F := Ideal) x1) (constantI shape0 32 204800#32) := rfl
  rw [e, pyRem_ap bcast_S_S204800 _ _ _ (position_div x1 h1 i) (b := 204800) rfl (by omega) (by omega) (by omega),
    Nat.mod_eq_of_lt hi]

/-- The number of set positions is the number of slots. -/
theorem total : val_main_v15 (F := Ideal) x1 ix0 = BitVec.ofNat 32 204800 := by
  unfold val_main_v15
  refine (reduce_sum (N := 204800) _ (fun _ => 1) (fun i => ?_) _ _).trans ?_
  · rw [val_main_v14_apply, val_main_v0_apply, h1]
    rfl
  · rw [sum_ones]

/-- **`jnp.nonzero` of a full mask**: the index at position `i` is `i`. -/
theorem nonzero (i : Fin 204800) : val_main_v20 (F := Ideal) x1 (ix1 i) = BitVec.ofNat 32 i.val := by
  have hi := i.isLt
  have ht : val_main_v18 (F := Ideal) x1 (ix1 i) = BitVec.ofNat 32 204800 := by
    rw [val_main_v18_apply, val_main_v16_apply]
    exact (congrArg _ (eq_ix0 _)).trans (total x1 h1)
  have hc : val_main_v19 (F := Ideal) x1 (ix1 i) = 0#1 := by
    rw [val_main_v19_apply, val_main_v17_apply, ht]
    change IntOp.cmpi .sge (BitVec.ofNat 32 i.val) (BitVec.ofNat 32 204800) = 0#1
    rw [WordCmp.cmpi_sge_ofNat (w := 32) (by omega) (by omega), decide_eq_false (by omega)]
    rfl
  rw [val_main_v20_apply, hc, position_rem x1 h1]
  rfl

/-- The column of index words of the first scatter: `i` at row `i`. -/
theorem index_col_1 (i : Fin 204800) : val_main_v31 (F := Ideal) x1 (ix2 i (0 : Fin 1)) = BitVec.ofNat 32 i.val := by
  have hi := i.isLt
  have e : idx_main_v31 (ix2 i (0 : Fin 1)) = ix1 i := funext fun a => match a with
    | ⟨0, _⟩ => rfl
  rw [val_main_v31_apply, e]
  rw [val_main_v30_apply, val_main_v27_apply, val_main_v26_apply, val_main_c_7_apply, nonzero x1 h1]
  exact wrap_of_lt _ _ (by rw [BitVec.toNat_ofNat, Nat.mod_eq_of_lt (by omega)]; omega)

/-- The column of index words of the second scatter: `i` at row `i`. -/
theorem index_col_2 (i : Fin 204800) : val_main_v42 (F := Ideal) x1 (ix2 i (0 : Fin 1)) = BitVec.ofNat 32 i.val := by
  have hi := i.isLt
  have e : idx_main_v42 (ix2 i (0 : Fin 1)) = ix1 i := funext fun a => match a with
    | ⟨0, _⟩ => rfl
  rw [val_main_v42_apply, e]
  rw [val_main_v41_apply, val_main_v38_apply, val_main_v37_apply, val_main_c_9_apply, nonzero x1 h1]
  exact wrap_of_lt _ _ (by rw [BitVec.toNat_ofNat, Nat.mod_eq_of_lt (by omega)]; omega)

end Cert.Proof.Nonzero

end
-- ==== Proof.RefValue.lean ====
/- The reference's result, index by index, for a mask that is true everywhere: zero, plus the first dense layer, plus the
   second. -/
module

public import proofs.«01_k».proof.Proof.Gen.ReferenceIdeal.Read
public import Idealize.ShloMosaic.Lib.Pointwise
public import proofs.«01_k».proof.Proof.Scatter
public import proofs.«01_k».proof.Proof.Nonzero

@[expose] public section

noncomputable section

namespace Cert.Proof.RefValue

open Idealize.ShloMosaic
open Cert.ReferenceIdeal Cert.ReferenceIdeal.Read

variable (x0 : FVec Ideal S204800x128 .f32) (x1 : IVec S1024x200 1) (x2 : FVec Ideal S128x64 .f32) (x3 : FVec Ideal S64 .f32)
  (x4 : FVec Ideal S128x64 .f32) (x5 : FVec Ideal S64 .f32)

/-- The zeros the two layers are added to. -/
theorem zeros (i : S204800x64.Idx) : (val_main_v21 (F := Ideal) i : EReal) = 0 := by
  rw [val_main_v21_apply]
  unfold val_main_cst
  simp [constant, Ideal.ofBits, Ideal.ieee]

/-- The first layer at row `r` and column `c`. -/
theorem layer_1 (r : Fin 204800) (c : Fin 64) : (val_main_v25 (F := Ideal) x0 x2 x3 (ix2 r c) : EReal)
    = (∑ k : Fin 128, (x0 (ix2 r k) : EReal) * (x2 (ix2 k c) : EReal)) + (x3 (ix1 c) : EReal) := by
  pointwise [val_main_v25, val_main_v22, val_main_v24, val_main_v23]

/-- The second layer at row `r` and column `c`. -/
theorem layer_2 (r : Fin 204800) (c : Fin 64) : (val_main_v36 (F := Ideal) x0 x4 x5 (ix2 r c) : EReal)
    = (∑ k : Fin 128, (x0 (ix2 r k) : EReal) * (x4 (ix2 k c) : EReal)) + (x5 (ix1 c) : EReal) := by
  pointwise [val_main_v36, val_main_v33, val_main_v35, val_main_v34]

/-- The number of rows fits a signed word. -/
theorem small : 204800 < 2 ^ 31 := by norm_num

/-- The array before the last reshape, for a mask that is true everywhere. -/
theorem scattered (h1 : x1 = fun _ => 1#1) (r : Fin 204800) (c : Fin 64) :
    (val_main_v43 (F := Ideal) x0 x1 x2 x3 x4 x5 (ix2 r c) : EReal)
      = (0 + ((∑ k : Fin 128, (x0 (ix2 r k) : EReal) * (x2 (ix2 k c) : EReal)) + (x3 (ix1 c) : EReal)))
        + ((∑ k : Fin 128, (x0 (ix2 r k) : EReal) * (x4 (ix2 k c) : EReal)) + (x5 (ix1 c) : EReal)) := by
  unfold val_main_v43
  refine (Scatter.scatterAdd_identity (R := 204800) (C := 64) small _ rfl rfl rfl rfl _ _ _ (Nonzero.index_col_2 x1 h1) r c).trans ?_
  refine congrArg₂ (fun a b : EReal => a + b) ?_ (layer_2 x0 x4 x5 r c)
  unfold val_main_v32
  refine (Scatter.scatterAdd_identity (R := 204800) (C := 64) small _ rfl rfl rfl rfl _ _ _ (Nonzero.index_col_1 x1 h1) r c).trans ?_
  exact congrArg₂ (fun a b : EReal => a + b) (zeros _) (layer_1 x0 x2 x3 r c)

end Cert.Proof.RefValue

end
-- ==== Proof.Equation.lean ====
/- The equation of the two programs: for a mask that is true everywhere, real features and one real weight of each pair,
   the kernel's dense layer of summed weights is the reference's two layers scattered one after the other. -/
module

public import proofs.«01_k».proof.Proof.Algebra
public import proofs.«01_k».proof.Proof.KernelValue
public import proofs.«01_k».proof.Proof.RefValue

@[expose] public section

noncomputable section

namespace Cert.Proof.Equation

open Idealize.ShloMosaic
open Cert.ReferenceIdeal Cert.ReferenceIdeal.Read

variable (x0 : FVec Ideal S204800x128 .f32) (x1 : IVec S1024x200 1) (x2 : FVec Ideal S128x64 .f32) (x3 : FVec Ideal S64 .f32)
  (x4 : FVec Ideal S128x64 .f32) (x5 : FVec Ideal S64 .f32)

/-- The two arrays before the last reshape are equal. -/
theorem rows (h1 : x1 = fun _ => 1#1) (hx : ∀ i, ∃ r : ℝ, (x0 i : EReal) = r)
    (hw : ∀ i, (∃ r : ℝ, (x2 i : EReal) = r) ∨ ∃ r : ℝ, (x4 i : EReal) = r) :
    val_main_v43 (F := Ideal) x0 x1 x2 x3 x4 x5 = KernelValue.dense x0 x2 x4 x3 x5 := by
  funext i
  rw [show i = ix2 (i 0) (i 1) from ValueIdx.eq_ix2 i]
  exact (RefValue.scattered x0 x1 x2 x3 x4 x5 h1 (i 0) (i 1)).trans
    (Algebra.layers (fun k : Fin 128 => x0 (ix2 (i 0) k)) (fun k => x2 (ix2 k (i 1))) (fun k => x4 (ix2 k (i 1))) _ _
      (fun k => hx _) (fun k => hw _)).symm

/-- The two results are equal. -/
theorem results (h1 : x1 = fun _ => 1#1) (hx : ∀ i, ∃ r : ℝ, (x0 i : EReal) = r)
    (hw : ∀ i, (∃ r : ℝ, (x2 i : EReal) = r) ∨ ∃ r : ℝ, (x4 i : EReal) = r) :
    val_main_v44 (F := Ideal) x0 x1 x2 x3 x4 x5
      = shapeCast Cert.KernelIdeal.S1024x200x64 (KernelValue.dense x0 x2 x4 x3 x5)
          Cert.KernelIdeal.Gen.shapeCasts_S204800x64_S1024x200x64 := by
  unfold val_main_v44
  rw [rows x0 x1 x2 x3 x4 x5 h1 hx hw]

end Cert.Proof.Equation

end
-- ==== Proof.Reference.lean ====
/- The reference's runs: the result it ends with as a function of the arguments, the arguments unchanged, and every
   semaphore counter at zero. -/
module

public import proofs.«01_k».proof.Proof.Gen.ReferenceIdeal.Run
public import proofs.«01_k».proof.Proof.Gen.ReferenceIdeal.Read
public import Idealize.ShloMosaic.Lib.Quiescent

@[expose] public section

noncomputable section

namespace Cert.Proof.Reference

open Idealize.ShloMosaic Idealize.ShloMosaic.TcCoe Idealize.SL.Sem
open Cert.ReferenceIdeal

variable (m : (ℓ : Loc nD τ sig) → Buf (Elt Ideal) ℓ) (ρ : Dev nD → PrngReg)

/-- The arguments of the reference end as launched. -/
abbrev Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- Every run ends with the result at the stages' last value and the arguments as launched. -/
theorem run : θ_run defs (onTc (τ := τ) (main (F := Ideal))) ⟨m, fun _ => 0, ρ⟩ fun r => ∀ c : Dev nD,
    r.2.mem ((c.tc : Thread nD τ).loc main_v44)
      = Read.val_main_v44 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
    ∧ Kept m r c :=
  (θ_run defs _ _).mono (fun _ h c => ⟨(h c).1.trans (Read.val_main_v44_eq (F := Ideal) (StableHlo.launchContents m c)), (h c).2⟩)
    (Value.run m ρ)

/-- The frame: the arguments end as launched and every semaphore counter is zero (the program names none). -/
theorem frame : θ_run defs (onTc (τ := τ) (main (F := Ideal))) ⟨m, fun _ => 0, ρ⟩ fun r =>
    (∀ c : Dev nD, Kept m r c) ∧ r.2.sem = fun _ => 0 :=
  (θ_run defs _ _).mono (fun r h => ⟨fun c => (h c).2, sem_eq_zero_of_no_sems (by rfl) r.2⟩) (run m ρ)

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_slots_full
public import proofs.«01_k».proof.Proof.Gen.ReferenceIdeal.Run
public import proofs.«01_k».proof.Proof.Gen.ReferenceIdeal.Read
public import proofs.«01_k».proof.Proof.Pre
public import proofs.«01_k».proof.Proof.Equation
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The value claim: under the precondition both programs end with the same result, the reshaped dense layer. -/
theorem value : Cert.algebraic_KernelIdeal_ReferenceIdeal_pre_slots_full (hKernelIdeal := Cert.KernelIdeal.Gen.facts)
    (hReferenceIdeal := Cert.ReferenceIdeal.Gen.facts) (hPre_slots_full := Cert.Pre_slots_full.Gen.facts) := by
  intro m g m' g' hpre hargs
  refine ⟨_, KernelValue.run m g, (θ_run _ _ _).mono ?_ (Reference.run m' g')⟩
  intro r h c
  refine ⟨(h c).1.trans ?_, (h c).2⟩
  obtain ⟨a0, a1, a2, a3, a4, a5⟩ := hargs c
  obtain ⟨p1, p0, pw⟩ := hpre c
  rw [a0, a1, a2, a3, a4, a5]
  exact Equation.results _ _ _ _ _ _ (Pre.mask _ _ _ _ _ _ p1) (Pre.feats _ _ _ _ _ _ p0) (Pre.weights _ _ _ _ _ _ pw)

/-- Everything the certificate claims. -/
theorem claim : Cert.Claim :=
  ⟨Cert.Kernel.Gen.facts, Cert.KernelIdeal.Gen.facts, Cert.ReferenceIdeal.Gen.facts, Cert.Pre_slots_full.Gen.facts,
    fun m g _ => Cert.Kernel.Gen.frame m g, fun m g _ => Cert.KernelIdeal.Gen.frame m g,
    fun m g _ => Cert.KernelIdeal.Gen.frame m g, fun m g _ => Reference.frame m g, fun m g _ => Reference.frame m g,
    trivial, value⟩

end Cert.Proof

end
